-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8x1000 : Shape := ⟨3, ![4096, 8, 1000]⟩
abbrev S_ : Shape := ⟨0, ![]⟩
abbrev S4096x128 : Shape := ⟨2, ![4096, 128]⟩
abbrev S4096x1000 : Shape := ⟨2, ![4096, 1000]⟩
abbrev S128x8x1000 : Shape := ⟨3, ![128, 8, 1000]⟩
abbrev S128x1000 : Shape := ⟨2, ![128, 1000]⟩
abbrev S128x1x1000 : Shape := ⟨3, ![128, 1, 1000]⟩
abbrev S128 : Shape := ⟨1, ![128]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x8x1000, .f32⟩
  | .hbm, ⟨1, _⟩ => ⟨S4096x8x1000, .f32⟩
  | .hbm, ⟨2, _⟩ => ⟨S_, .i32⟩
  | .hbm, ⟨3, _⟩ => ⟨S4096x128, .f32⟩
  | .hbm, ⟨4, _⟩ => ⟨S4096x1000, .f32⟩
  | .local _ .vmem, ⟨0, _⟩ => ⟨S128x8x1000, .f32⟩
  | .local _ .vmem, ⟨1, _⟩ => ⟨S128x8x1000, .f32⟩
  | .local _ .vmem, ⟨2, _⟩ => ⟨S128x8x1000, .f32⟩
  | .local _ .vmem, ⟨3, _⟩ => ⟨S128x8x1000, .f32⟩
  | .local _ .vmem, ⟨4, _⟩ => ⟨S128x1000, .f32⟩
  | .local _ .vmem, ⟨5, _⟩ => ⟨S128x1000, .f32⟩
  | _, _ => ⟨S4096x8x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x8x1000 : Shape := ⟨3, ![4096, 8, 1000]⟩
abbrev S_ : Shape := ⟨0, ![]⟩
abbrev S4096x128 : Shape := ⟨2, ![4096, 128]⟩
abbrev S4096x1000 : Shape := ⟨2, ![4096, 1000]⟩
abbrev S4096x1x1000 : Shape := ⟨3, ![4096, 1, 1000]⟩
abbrev S4096x1x1000x1 : Shape := ⟨4, ![4096, 1, 1000, 1]⟩
abbrev S1 : Shape := ⟨1, ![1]⟩
abbrev S1x1x1x1 : Shape := ⟨4, ![1, 1, 1, 1]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x8x1000, .f32⟩
  | .hbm, ⟨1, _⟩ => ⟨S4096x8x1000, .f32⟩
  | .hbm, ⟨2, _⟩ => ⟨S_, .i32⟩
  | .hbm, ⟨3, _⟩ => ⟨S4096x128, .f32⟩
  | .hbm, ⟨4, _⟩ => ⟨S_, .f32⟩
  | .hbm, ⟨5, _⟩ => ⟨S4096x1000, .f32⟩
  | .hbm, ⟨6, _⟩ => ⟨S4096x8x1000, .i32⟩
  | .hbm, ⟨7, _⟩ => ⟨S_, .f32⟩
  | .hbm, ⟨8, _⟩ => ⟨S_, .i32⟩
  | .hbm, ⟨9, _⟩ => ⟨S4096x1000, .f32⟩
  | .hbm, ⟨10, _⟩ => ⟨S4096x1000, .i32⟩
  | .hbm, ⟨11, _⟩ => ⟨S4096x1x1000, .i32⟩
  | .hbm, ⟨12, _⟩ => ⟨S_, .i32⟩
  | .hbm, ⟨13, _⟩ => ⟨S4096x1x1000, .i32⟩
  | .hbm, ⟨14, _⟩ => ⟨S4096x1x1000, .i1⟩
  | .hbm, ⟨15, _⟩ => ⟨S_, .i32⟩
  | .hbm, ⟨16, _⟩ => ⟨S4096x1x1000, .i32⟩
  | .hbm, ⟨17, _⟩ => ⟨S4096x1x1000, .i32⟩
  | .hbm, ⟨18, _⟩ => ⟨S4096x1x1000, .i32⟩
  | .hbm, ⟨19, _⟩ => ⟨S4096x1x1000x1, .i32⟩
  | .hbm, ⟨20, _⟩ => ⟨S1, .i32⟩
  | .hbm, ⟨21, _⟩ => ⟨S_, .i32⟩
  | .hbm, ⟨22, _⟩ => ⟨S4096x1x1000x1, .i32⟩
  | .hbm, ⟨23, _⟩ => ⟨S4096x1x1000x1, .i1⟩
  | .hbm, ⟨24, _⟩ => ⟨S1x1x1x1, .i32⟩
  | .hbm, ⟨25, _⟩ => ⟨S4096x1x1000x1, .i32⟩
  | .hbm, ⟨26, _⟩ => ⟨S4096x1x1000x1, .i1⟩
  | .hbm, ⟨27, _⟩ => ⟨S4096x1x1000x1, .i1⟩
  | .hbm, ⟨28, _⟩ => ⟨S_, .i1⟩
  | .hbm, ⟨29, _⟩ => ⟨S4096x1x1000, .i1⟩
  | .hbm, ⟨30, _⟩ => ⟨S4096x1x1000, .f32⟩
  | .hbm, ⟨31, _⟩ => ⟨S_, .f32⟩
  | .hbm, ⟨32, _⟩ => ⟨S4096x1x1000, .f32⟩
  | .hbm, ⟨33, _⟩ => ⟨S4096x1x1000, .f32⟩
  | .hbm, ⟨34, _⟩ => ⟨S4096x1000, .f32⟩
  | .hbm, ⟨35, _⟩ => ⟨S_, .f32⟩
  | .hbm, ⟨36, _⟩ => ⟨S4096x1000, .f32⟩
  | .hbm, ⟨37, _⟩ => ⟨S4096x1000, .f32⟩
  | .hbm, ⟨38, _⟩ => ⟨S4096x1000, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x1000, .f32⟩
  | .hbm, ⟨46, _⟩ => ⟨S4096x1000, .f32⟩
  | .hbm, ⟨47, _⟩ => ⟨S4096x1000, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1000, .f32⟩
  | .hbm, ⟨52, _⟩ => ⟨S4096x1000, .f32⟩
  | _, _ => ⟨S4096x8x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v1 : Ref sig .tc := ⟨.hbm, 10, rfl⟩
abbrev main_v2 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v3 : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_cst_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩

abbrev nD : Nat := 1
abbrev τ : Topo := Topo.v7x

variable {F : FTy → Type} [FloatOps F]
-- ==== Proof.Row.lean ====
/-
  The mathematics of one class of one row, over the extended reals. A row holds, for each of the eight members of the
  ensemble, a value and a rate; both programs keep the least value and the rate that stands beside it. `pick` is that
  choice, made member by member, the earlier member kept on equal values. `pick_fst` reads the value as the least of the
  eight, and `fold_pick` shows that a fold which remembers the least value's index remembers the index `pick` chose.
  `soft` is the softmax of a row of a thousand scores, less its greatest before the exponential.
-/
module

public import proofs.«01_k».proof.Defs
public import Idealize.ShloMosaic.Lib.Pointwise

@[expose] public section

noncomputable section

namespace Cert.Proof.Row

open Idealize.ShloMosaic

/-- The least of the members `0 … n`'s values and the rate beside it, the earlier member kept on equal values. -/
def pick (a e : Fin 8 → EReal) : ℕ → EReal × EReal
  | 0 => (a 0, e 0)
  | n + 1 => if a (Fin.ofNat 8 (n + 1)) < (pick a e n).1 then (a (Fin.ofNat 8 (n + 1)), e (Fin.ofNat 8 (n + 1)))
      else pick a e n

/-- The pair kept is one of the members' pairs. -/
theorem pick_mem (a e : Fin 8 → EReal) (n : ℕ) : ∃ k : Fin 8, pick a e n = (a k, e k) := by
  induction n with
  | zero => exact ⟨0, rfl⟩
  | succ n ih =>
    unfold pick
    split
    · exact ⟨_, rfl⟩
    · exact ih

/-- The value kept is below every value met. -/
theorem pick_le (a e : Fin 8 → EReal) (n : ℕ) (k : Fin 8) (hk : k.val ≤ n) : (pick a e n).1 ≤ a k := by
  induction n with
  | zero =>
    obtain rfl : k = 0 := Fin.ext (by simpa using hk)
    exact le_refl _
  | succ n ih =>
    rcases Nat.lt_or_ge n k.val with h | h
    · obtain rfl : k = Fin.ofNat 8 (n + 1) := Fin.ext (by
        have := k.isLt
        simp only [Fin.ofNat_eq_cast, Fin.val_natCast]
        omega)
      unfold pick
      split
      · exact le_refl _
      · exact not_lt.mp ‹_›
    · unfold pick
      split
      · exact (le_of_lt ‹_›).trans (ih h)
      · exact ih h

/-- After the eight members the value kept is the least of the eight. -/
theorem pick_fst (a e : Fin 8 → EReal) : (pick a e 7).1 = (Finset.univ : Finset (Fin 8)).fold min ⊤ a := by
  apply le_antisymm
  · exact (Finset.le_fold_min _).mpr ⟨le_top, fun k _ => pick_le a e 7 k (by have := k.isLt; omega)⟩
  · obtain ⟨k, hk⟩ := pick_mem a e 7
    rw [hk]
    exact (Finset.fold_min_le _).mpr (Or.inr ⟨k, Finset.mem_univ k, le_refl _⟩)

/-- A state remembers member `k`'s value and index, and `pick` after `n` chose member `k`. -/
def Holds (a e : Fin 8 → EReal) (n : ℕ) (s : EReal × BitVec 32) : Prop :=
  ∃ k : Fin 8, k.val ≤ n ∧ pick a e n = (a k, e k) ∧ s = (a k, BitVec.ofNat 32 k.val)

/-- A fold over the eight members in order, whose body takes the new member exactly when its value is strictly less,
    remembers the index of the member `pick` chose. `f` is asked for this only at indices in order, and at the
    initial state `(⊤, 0)` it takes member zero. -/
theorem fold_pick (a e : Fin 8 → EReal) (f : EReal × BitVec 32 → EReal × BitVec 32 → EReal × BitVec 32)
    (h0 : ∀ v, f (⊤, 0#32) (v, 0#32) = (v, 0#32))
    (hf : ∀ (v w : EReal) (k n : ℕ), k < n → n < 8 → f (v, BitVec.ofNat 32 k) (w, BitVec.ofNat 32 n)
      = if w < v then (w, BitVec.ofNat 32 n) else (v, BitVec.ofNat 32 k)) :
    Holds a e 7 (((List.finRange 8).map fun k => (a k, BitVec.ofNat 32 k.val)).foldl f (⊤, 0#32)) := by
  have step : ∀ (n : ℕ) (hn : n + 1 < 8) (s : EReal × BitVec 32), Holds a e n s →
      Holds a e (n + 1) (f s (a ⟨n + 1, hn⟩, BitVec.ofNat 32 (n + 1))) := by
    rintro n hn _ ⟨k, hk, hp, rfl⟩
    have he : Fin.ofNat 8 (n + 1) = ⟨n + 1, hn⟩ := Fin.ext (Nat.mod_eq_of_lt hn)
    rw [hf _ _ _ _ (by omega) hn]
    unfold Holds pick
    rw [he, hp]
    split
    · exact ⟨⟨n + 1, hn⟩, le_refl _, rfl, rfl⟩
    · exact ⟨k, by omega, rfl, rfl⟩
  have start : Holds a e 0 (f (⊤, 0#32) (a 0, 0#32)) := by
    rw [h0]
    exact ⟨0, le_refl _, rfl, rfl⟩
  exact step 6 (by omega) _ (step 5 (by omega) _ (step 4 (by omega) _ (step 3 (by omega) _ (step 2 (by omega) _
    (step 1 (by omega) _ (step 0 (by omega) _ start))))))

/-- The scores the softmax is taken of: the least value over the rate beside it, the rate clipped from below by the
    number the word `0x322BCC77` denotes. -/
def score (a e : Fin 8 → EReal) : EReal :=
  Ideal.div (pick a e 7).1 (max (pick a e 7).2 (Ideal.ofBits .f32 0x322BCC77#32))

/-- The greatest entry of a row. -/
def top (s : Fin 1000 → EReal) : EReal := (Finset.univ : Finset (Fin 1000)).fold max ⊥ s

/-- The softmax of a row at one entry. -/
def soft (s : Fin 1000 → EReal) (l : Fin 1000) : EReal :=
  Ideal.div (Ideal.exp (s l - top s)) (∑ l', Ideal.exp (s l' - top s))

end Cert.Proof.Row

end
-- ==== Proof.KernelValue.lean ====
/-
  What the idealized kernel leaves in its result. At each of its 32 points the body reads a block of 128 rows of both
  arguments and stores the softmax rows of that block: `block_apply` reads the stored payload at an index, `flushed_eq`
  says it is the point's block of the whole-array function `result`, and since the 32 blocks tile the result (`cover`)
  the array ends at `result` (`final_o`, `run`).
-/
module

public import proofs.«01_k».proof.Proof.Row
public import proofs.«01_k».proof.Proof.Gen.KernelIdeal.Frame
public import Idealize.ShloMosaic.Lib.Pipeline.Value
public import Idealize.ShloMosaic.Lib.Pointwise

@[expose] public section

noncomputable section

namespace Cert.Proof.KernelValue

open Cert.KernelIdeal Cert.KernelIdeal.Gen Cert.Proof.Row
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- Member `k`'s slab of a block, as the body squeezes it. -/
def slab (x : Vec Ideal S128x8x1000 .f32) (k : Fin 8) : FVec Ideal S128x1000 .f32 := fun i => x (ix3 (i 0) k (i 1))

/-- The least value met up to member `n`, and the rate beside it, at every row and class of a block. -/
def best (x y : Vec Ideal S128x8x1000 .f32) (n : ℕ) : FVec Ideal S128x1000 .f32 := fun i =>
  (pick (fun k => x (ix3 (i 0) k (i 1))) (fun k => y (ix3 (i 0) k (i 1))) n).1
@[inherit_doc best]
def rate (x y : Vec Ideal S128x8x1000 .f32) (n : ℕ) : FVec Ideal S128x1000 .f32 := fun i =>
  (pick (fun k => x (ix3 (i 0) k (i 1))) (fun k => y (ix3 (i 0) k (i 1))) n).2

/-- The load of one member's rows, squeezed, is its slab. -/
theorem slab_eq (x : Vec Ideal S128x8x1000 .f32) (k : Fin 8) (n : ℕ) (hk : k.val = n)
    (h : ∀ a, (![0, n, 0] : Fin 3 → Nat) a + S128x1x1000.size a ≤ S128x8x1000.size a)
    (hc : S128x1x1000.ShapeCasts S128x1000) :
    shapeCast S128x1000 (View.ld x (Rect.unit (s := S128x8x1000) ![0, n, 0] S128x1x1000.size h)) hc = slab x k := by
  subst hk
  funext i
  pointwise [slab]

variable (x y : Vec Ideal S128x8x1000 .f32)

theorem best_zero : slab x 0 = best x y 0 := rfl
theorem rate_zero : slab y 0 = rate x y 0 := rfl

/-- One comparison of the body: the next member's value against the least so far. -/
theorem best_succ (n : ℕ) (k : Fin 8) (hk : Fin.ofNat 8 (n + 1) = k) :
    select (cmpf .olt (slab x k) (best x y n)) (slab x k) (best x y n) = best x y (n + 1) := by
  subst hk
  funext i
  pointwise [slab, best, pick]
  split <;> rfl
theorem rate_succ (n : ℕ) (k : Fin 8) (hk : Fin.ofNat 8 (n + 1) = k) :
    select (cmpf .olt (slab x k) (best x y n)) (slab y k) (rate x y n) = rate x y (n + 1) := by
  subst hk
  funext i
  pointwise [slab, best, rate, pick]
  split <;> rfl

/-- What the body stores, of the two blocks it reads, at row `r` and class `l`. -/
theorem block_apply (r : Fin 128) (l : Fin 1000) :
    out0_2 x y (ix2 r l) = soft (fun l' => score (fun k => x (ix3 r k l')) (fun k => y (ix3 r k l'))) l := by
  unfold out0_2
  rw [View.canon_unit_zero hz]
  simp only [k0_pay1, k0_pay2, k0_pay3, k0_pay4, k0_pay5, k0_pay6, k0_pay7, k0_pay8, k0_pay9, k0_pay10, k0_pay11,
    k0_pay12, k0_pay13, k0_pay14, slab_eq x 0 0 rfl, slab_eq x 1 1 rfl, slab_eq x 2 2 rfl, slab_eq x 3 3 rfl,
    slab_eq x 4 4 rfl, slab_eq x 5 5 rfl, slab_eq x 6 6 rfl, slab_eq x 7 7 rfl, slab_eq y 0 0 rfl, slab_eq y 1 1 rfl,
    slab_eq y 2 2 rfl, slab_eq y 3 3 rfl, slab_eq y 4 4 rfl, slab_eq y 5 5 rfl, slab_eq y 6 6 rfl, slab_eq y 7 7 rfl,
    best_zero x y, rate_zero x y, best_succ x y 0 1 rfl, best_succ x y 1 2 rfl, best_succ x y 2 3 rfl,
    best_succ x y 3 4 rfl, best_succ x y 4 5 rfl, best_succ x y 5 6 rfl, best_succ x y 6 7 rfl, rate_succ x y 0 1 rfl,
    rate_succ x y 1 2 rfl, rate_succ x y 2 3 rfl, rate_succ x y 3 4 rfl, rate_succ x y 4 5 rfl, rate_succ x y 5 6 rfl,
    rate_succ x y 6 7 rfl, Nat.reduceAdd]
  pointwise [best, rate, soft, score, top]
  rfl

variable (m : (ℓ : Loc nD τ sig) → Buf (Elt Ideal) ℓ) (ρ : Dev nD → PrngReg)

/-- Row `r`'s scores, of the whole argument arrays. -/
def scores (x y : S4096x8x1000.Idx → EReal) (r : Fin 4096) (l : Fin 1000) : EReal :=
  score (fun k => x (ix3 r k l)) (fun k => y (ix3 r k l))

/-- The whole result, of the two argument arrays: the softmax of every row's scores. -/
def result (x y : S4096x8x1000.Idx → EReal) : S4096x1000.Idx → EReal := fun i => soft (scores x y (i 0)) (i 1)

/-- The result of device `c`'s arguments. -/
abbrev outOf (c : Dev nD) : Buf (Elt Ideal) ((c : Thread nD τ).loc main_v0) :=
  result (m ((c : Thread nD τ).loc main_arg0)) (m ((c : Thread nD τ).loc main_arg1))

/-- Where point `t`'s blocks lie: 128 rows from row `128 t` on. -/
theorem starts (t : Fin cfg0.N) :
    (win0_0.index t 0 * win0_0.size 0 = t.val * 128 ∧ win0_0.index t 1 * win0_0.size 1 = 0 ∧ win0_0.index t 2 * win0_0.size 2 = 0)
    ∧ (win0_1.index t 0 * win0_1.size 0 = t.val * 128 ∧ win0_1.index t 1 * win0_1.size 1 = 0 ∧ win0_1.index t 2 * win0_1.size 2 = 0)
    ∧ win0_2.index t 0 * win0_2.size 0 = t.val * 128 ∧ win0_2.index t 1 * win0_2.size 1 = 0
    ∧ win0_2.xsize (grid0.coords t) 0 = 128 ∧ win0_2.xsize (grid0.coords t) 1 = 1000 := by
  revert t; decide +kernel

/-- Row `r` of point `t`'s block, as a row of the array. -/
def rowAt (t : Fin cfg0.N) (r : Fin 128) : Fin 4096 :=
  ⟨t.val * 128 + r.val, by have h : cfg0.N = 32 := N_0; have := t.isLt; have := r.isLt; omega⟩

theorem iblk0_apply (c : Dev nD) (t : Fin cfg0.N) (r : Fin 128) (k : Fin 8) (l : Fin 1000) :
    iblk m c 0 t (ix3 r k l) = m ((c : Thread nD τ).loc main_arg0) (ix3 (rowAt t r) k l) := by
  obtain ⟨⟨h0, h1, h2⟩, -⟩ := starts t
  show m ((c : Thread nD τ).loc main_arg0) ((win0_0.rect t).emb (ix3 r k l)) = _
  congr 1
  funext a
  apply Fin.ext
  match a with
  | ⟨0, _⟩ => show win0_0.index t 0 * win0_0.size 0 + 1 * r.val = _; rw [h0, one_mul]; rfl
  | ⟨1, _⟩ => show win0_0.index t 1 * win0_0.size 1 + 1 * k.val = _; rw [h1, one_mul, zero_add]; rfl
  | ⟨2, _⟩ => show win0_0.index t 2 * win0_0.size 2 + 1 * l.val = _; rw [h2, one_mul, zero_add]; rfl

theorem iblk1_apply (c : Dev nD) (t : Fin cfg0.N) (r : Fin 128) (k : Fin 8) (l : Fin 1000) :
    iblk m c 1 t (ix3 r k l) = m ((c : Thread nD τ).loc main_arg1) (ix3 (rowAt t r) k l) := by
  obtain ⟨-, ⟨h0, h1, h2⟩, -⟩ := starts t
  show m ((c : Thread nD τ).loc main_arg1) ((win0_1.rect t).emb (ix3 r k l)) = _
  congr 1
  funext a
  apply Fin.ext
  match a with
  | ⟨0, _⟩ => show win0_1.index t 0 * win0_1.size 0 + 1 * r.val = _; rw [h0, one_mul]; rfl
  | ⟨1, _⟩ => show win0_1.index t 1 * win0_1.size 1 + 1 * k.val = _; rw [h1, one_mul, zero_add]; rfl
  | ⟨2, _⟩ => show win0_1.index t 2 * win0_1.size 2 + 1 * l.val = _; rw [h2, one_mul, zero_add]; rfl

/-- What point `t` writes back is its block of the whole result. -/
theorem flushed_eq (c : Dev nD) (t : Fin cfg0.N) :
    (dats m 0 c).flushed 2 t = (win0_2.blk t).view.read (Elt Ideal) (outOf m c) := by
  show (cfg0.win 2).cut (grid0.coords t) ((dats m 0 c).after 2 t) = _
  rw [after0_2]
  obtain ⟨-, -, h0, h1, -⟩ := starts t
  funext i
  have hi : i = ix2 (i 0) (i 1) := by funext a; match a with | ⟨0, _⟩ => rfl | ⟨1, _⟩ => rfl
  have e : (win0_2.rect t).emb i = ix2 (rowAt t (i 0)) (i 1) := by
    funext a
    apply Fin.ext
    match a with
    | ⟨0, _⟩ => show win0_2.index t 0 * win0_2.size 0 + 1 * (i 0).val = _; rw [h0, one_mul]; rfl
    | ⟨1, _⟩ => show win0_2.index t 1 * win0_2.size 1 + 1 * (i 1).val = _; rw [h1, one_mul, zero_add]; rfl
  show out0_2 (iblk m c 0 t) (iblk m c 1 t) i = outOf m c ((win0_2.rect t).emb i)
  rw [e]
  have key (r : Fin 128) (l : Fin 1000) :
      out0_2 (iblk m c 0 t) (iblk m c 1 t) (ix2 r l) = outOf m c (ix2 (rowAt t r) l) := by
    rw [block_apply]
    simp only [iblk0_apply, iblk1_apply]
    rfl
  exact (congrArg (out0_2 (iblk m c 0 t) (iblk m c 1 t)) hi).trans (key (i 0) (i 1))

/-- An index of the result lies in point `t`'s block exactly when its row does. -/
theorem mem_blk (t : Fin cfg0.N) (i : S4096x1000.Idx) :
    i ∈ ((cfg0.win 2).blk t).view.set ↔ t.val * 128 ≤ (i 0 : Nat) ∧ (i 0 : Nat) < t.val * 128 + 128 := by
  show i ∈ ((View.whole main_v0).slice (win0_2.rect t)).set ↔ _
  rw [View.set_slice_whole, Rect.mem_set_unit]
  have hl : (i 1 : Nat) < 1000 := (i 1).isLt
  obtain ⟨-, -, h0, h1, s0, s1⟩ := starts t
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rwa [h0, s0] at this
  · match a with
    | ⟨0, _⟩ => show win0_2.index t 0 * win0_2.size 0 ≤ (i 0 : Nat) ∧ (i 0 : Nat) < win0_2.index t 0 * win0_2.size 0 + win0_2.xsize (grid0.coords t) 0
                rwa [h0, s0]
    | ⟨1, _⟩ => show win0_2.index t 1 * win0_2.size 1 ≤ (i 1 : Nat) ∧ (i 1 : Nat) < win0_2.index t 1 * win0_2.size 1 + win0_2.xsize (grid0.coords t) 1
                rw [h1, s1]; omega

/-- The 32 blocks tile the result. -/
theorem cover (i : S4096x1000.Idx) : ∃ t : Fin cfg0.N, (cfg0.win 2).flush t = true ∧ i ∈ ((cfg0.win 2).blk t).view.set := by
  have hr : (i 0 : Nat) < 4096 := (i 0).isLt
  have hN : cfg0.N = 32 := N_0
  refine ⟨⟨(i 0 : Nat) / 128, by omega⟩, flush0_2 _, ?_⟩
  rw [mem_blk]
  dsimp only
  omega

/-- So the result array ends at the whole result, -/
theorem final_o (c : Dev nD) : (dats m 0 c).arrAt 2 cfg0.N = outOf m c :=
  (dats m 0 c).arrAt_eq_of_cover 2 (outOf m c) (fun t _ => flushed_eq m c t) cover

/-- and every execution ends there, the arguments unchanged. -/
theorem run : θ_run defs (onTc (τ := τ) (main (F := Ideal))) ⟨m, fun _ => 0, ρ⟩ fun r => ∀ c : Dev nD,
      r.2.mem ((c : Thread nD τ).loc main_v0) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 2).trans (final_o m c),
      ((h c).1 0).trans ((dats m 0 c).arrAt_in 0 rfl _), ((h c).1 1).trans ((dats m 0 c).arrAt_in 1 rfl _),
      (h c).2 main_arg2 (Pipeline.mem_restRefs_of main_arg2 (by decide) (by decide)),
      (h c).2 main_arg3 (Pipeline.mem_restRefs_of main_arg3 (by decide) (by decide))⟩)
    (run_main m ρ)

end Cert.Proof.KernelValue

end
-- ==== Proof.Ref.lean ====
/-
  What the reference program computes. It is a straight line of host operations, so its run leaves in the result's
  buffer those operations composed: `out`, of the two float arguments, cut here into named steps (the least value over
  the ensemble, the index at which it stands, the exploration rate gathered there, the quotient, the softmax along a
  row). `run` states this of every execution, at any float instance, and that no argument changes.
-/
module

public import proofs.«01_k».proof.Defs
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The program's operations, in order. -/
abbrev ops : List (HloOp τ sig (Elt F)) :=
  [ nullary main_cst (constant S_ .f32 0x7F800000#32),
    binary main_arg0 main_cst main_v0 (fun x v => Host.reduce FloatOps.minimumf x v reducesTo_S4096x8x1000_S4096x1000_d1 h_S_),
    nullary main_call0_v0 (iotaInDim S4096x8x1000 32 1),
    nullary main_call0_cst (constant S_ .f32 0x7F800000#32),
    nullary main_call0_c (constantI S_ 32 0#32),
    quaternary main_arg0 main_call0_v0 main_call0_cst main_call0_c main_call0_v1_0 (fun x y u v j => (Host.argReduce reducer_argmin_f32_i32 x y u v reducesTo_S4096x8x1000_S4096x1000_d1 h_S_ j).1),
    quaternary main_arg0 main_call0_v0 main_call0_cst main_call0_c main_v1 (fun x y u v j => (Host.argReduce reducer_argmin_f32_i32 x y u v reducesTo_S4096x8x1000_S4096x1000_d1 h_S_ j).2),
    unary main_v1 main_v2 (broadcastInDim S4096x1x1000 ![0, 2] bcast_S4096x1000_S4096x1x1000_0_2),
    nullary main_call1_c (constantI S_ 32 0#32),
    unary main_call1_c main_call1_v0 (broadcastInDim S4096x1x1000 ![] bcast_S_S4096x1x1000),
    binary main_v2 main_call1_v0 main_call1_v1 (cmpi .slt),
    nullary main_call1_c_0 (constantI S_ 32 8#32),
    unary main_call1_c_0 main_call1_v2 (broadcastInDim S4096x1x1000 ![] bcast_S_S4096x1x1000),
    binary main_v2 main_call1_v2 main_call1_v3 addi,
    ternary main_call1_v1 main_call1_v3 main_v2 main_call1_v4 select,
    reshape main_call1_v4 main_call1_v5 (rfl : (.i32 : EltTy) = .i32) shapeCasts_S4096x1x1000_S4096x1x1000x1,
    nullary main_call1_c_1 (constantI S1 32 7#32),
    nullary main_call1_c_2 (constantI S_ 32 0#32),
    unary main_call1_c_2 main_call1_v6 (broadcastInDim S4096x1x1000x1 ![] bcast_S_S4096x1x1000x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S4096x1x1000x1 ![0, 1, 2, 3] bcast_S1x1x1x1_S4096x1x1000x1_0_1_2_3),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S4096x1x1000x1_S4096x1x1000_d3 h_S_),
    binary main_arg1 main_call1_v5 main_call1_v13 (fun x i => Host.gather gather_S4096x8x1000_S4096x1x1000x1_S4096x1x1000_n_1_02_02_1_3_111 x i),
    nullary main_call1_cst (constant S_ .f32 0x7FC00000#32),
    unary main_call1_cst main_call1_v14 (broadcastInDim S4096x1x1000 ![] bcast_S_S4096x1x1000),
    ternary main_call1_v12 main_call1_v13 main_call1_v14 main_v3 select,
    reshape main_v3 main_v4 (rfl : (.f32 : EltTy) = .f32) shapeCasts_S4096x1x1000_S4096x1000,
    nullary main_cst_0 (constant S_ .f32 0x322BCC77#32),
    unary main_cst_0 main_v5 (broadcastInDim S4096x1000 ![] bcast_S_S4096x1000),
    binary main_v4 main_v5 main_v6 maximumf,
    binary main_v0 main_v6 main_v7 Host.divf,
    nullary main_cst_1 (constant S_ .f32 0xFF800000#32),
    binary main_v7 main_cst_1 main_v8 (fun x v => Host.reduce FloatOps.maximumf x v reducesTo_S4096x1000_S4096_d1 h_S_),
    nullary main_cst_2 (constant S_ .f32 0xFF800000#32),
    unary main_cst_2 main_v9 (broadcastInDim S4096 ![] bcast_S_S4096),
    binary main_v9 main_v8 main_v10 maximumf,
    unary main_v10 main_v11 (broadcastInDim S4096x1 ![0] bcast_S4096_S4096x1_0),
    unary main_v11 main_v12 (broadcastInDim S4096x1000 ![0, 1] bcast_S4096x1_S4096x1000_0_1),
    binary main_v7 main_v12 main_v13 subf,
    unary main_v13 main_v14 Host.exp,
    nullary main_cst_3 (constant S_ .f32 0x00000000#32),
    binary main_v14 main_cst_3 main_v15 (fun x v => Host.reduceAdd x v reducesTo_S4096x1000_S4096_d1 h_S_),
    unary main_v15 main_v16 (broadcastInDim S4096x1 ![0] bcast_S4096_S4096x1_0),
    unary main_v16 main_v17 (broadcastInDim S4096x1000 ![0, 1] bcast_S4096x1_S4096x1000_0_1),
    binary main_v14 main_v17 main_v18 Host.divf ]

seal Host.reduce Host.argReduce Host.reduceAdd Host.gather in
set_option maxRecDepth 8192 in
/-- The program is that straight line. -/
theorem main_eq (c : Dev nD) : main (F := F) c = seq ops := rfl

/-- The least value over the ensemble. -/
def least (x : FVec F S4096x8x1000 .f32) : FVec F S4096x1000 .f32 :=
  Host.reduce FloatOps.minimumf x (constant S_ .f32 0x7F800000#32) reducesTo_S4096x8x1000_S4096x1000_d1 h_S_

/-- The index an arg-reduction gives, of any shapes. -/
def index {s t u : Shape} {axes : List (Fin s.rank)} {β : Type} (f : F .f32 × β → F .f32 × β → F .f32 × β)
    (x : FVec F s .f32) (y : s.Idx → β) (ix : u.Idx → F .f32) (iy : u.Idx → β) (h : s.ReducesTo axes t)
    (hu : 0 < u.numel) : t.Idx → β := fun j =>
  (Host.argReduce f x y ix iy h hu j).2

/-- The ensemble index at which the least value stands. -/
def place (x : FVec F S4096x8x1000 .f32) : IVec S4096x1000 32 :=
  index reducer_argmin_f32_i32 x (iotaInDim S4096x8x1000 32 1) (constant S_ .f32 0x7F800000#32)
    (constantI S_ 32 0#32) reducesTo_S4096x8x1000_S4096x1000_d1 h_S_

/-- That index as the gather takes it: a negative one counts from the end. -/
def start (p : IVec S4096x1000 32) : IVec S4096x1x1000x1 32 :=
  shapeCast S4096x1x1000x1
    (select (cmpi .slt (broadcastInDim S4096x1x1000 ![0, 2] bcast_S4096x1000_S4096x1x1000_0_2 p)
        (broadcastInDim S4096x1x1000 ![] bcast_S_S4096x1x1000 (constantI S_ 32 0#32)))
      (addi (broadcastInDim S4096x1x1000 ![0, 2] bcast_S4096x1000_S4096x1x1000_0_2 p)
        (broadcastInDim S4096x1x1000 ![] bcast_S_S4096x1x1000 (constantI S_ 32 8#32)))
      (broadcastInDim S4096x1x1000 ![0, 2] bcast_S4096x1000_S4096x1x1000_0_2 p))
    shapeCasts_S4096x1x1000_S4096x1x1000x1

/-- Whether the index lies among the ensemble's. -/
def inside (i : IVec S4096x1x1000x1 32) : IVec S4096x1x1000 1 :=
  Host.reduce IntOp.andi
    (andi (cmpi .sge i (broadcastInDim S4096x1x1000x1 ![] bcast_S_S4096x1x1000x1 (constantI S_ 32 0#32)))
      (cmpi .sle i (broadcastInDim S4096x1x1000x1 ![0, 1, 2, 3] bcast_S1x1x1x1_S4096x1x1000x1_0_1_2_3
        (broadcastInDim S1x1x1x1 ![3] bcast_S1_S1x1x1x1_3 (constantI S1 32 7#32)))))
    (constantI S_ 1 1#1) reducesTo_S4096x1x1000x1_S4096x1x1000_d3 h_S_

/-- The exploration rate gathered at the index. -/
def rate (y : FVec F S4096x8x1000 .f32) (p : IVec S4096x1000 32) : FVec F S4096x1000 .f32 :=
  shapeCast S4096x1000
    (select (inside (start p))
      (Host.gather gather_S4096x8x1000_S4096x1x1000x1_S4096x1x1000_n_1_02_02_1_3_111 y (start p))
      (broadcastInDim S4096x1x1000 ![] bcast_S_S4096x1x1000 (constant S_ .f32 0x7FC00000#32)))
    shapeCasts_S4096x1x1000_S4096x1000

/-- The least value over the clipped rate. -/
def scaled (b r : FVec F S4096x1000 .f32) : FVec F S4096x1000 .f32 :=
  Host.divf b (maximumf r (broadcastInDim S4096x1000 ![] bcast_S_S4096x1000 (constant S_ .f32 0x322BCC77#32)))

/-- The greatest entry of a row. -/
def greatest (s : FVec F S4096x1000 .f32) : FVec F S4096 .f32 :=
  Host.reduce FloatOps.maximumf s (constant S_ .f32 0xFF800000#32) reducesTo_S4096x1000_S4096_d1 h_S_

/-- The greater of it and `-∞`. -/
def atLeast (g : FVec F S4096 .f32) : FVec F S4096 .f32 :=
  maximumf (broadcastInDim S4096 ![] bcast_S_S4096 (constant S_ .f32 0xFF800000#32)) g

/-- The exponentials of a row less its greatest entry. -/
def weights (s : FVec F S4096x1000 .f32) : FVec F S4096x1000 .f32 :=
  Host.exp (subf s (broadcastInDim S4096x1000 ![0, 1] bcast_S4096x1_S4096x1000_0_1
    (broadcastInDim S4096x1 ![0] bcast_S4096_S4096x1_0
      (atLeast (greatest s)))))

/-- A row over its sum. -/
def share (w : FVec F S4096x1000 .f32) : FVec F S4096x1000 .f32 :=
  Host.divf w (broadcastInDim S4096x1000 ![0, 1] bcast_S4096x1_S4096x1000_0_1
    (broadcastInDim S4096x1 ![0] bcast_S4096_S4096x1_0
      (Host.reduceAdd w (constant S_ .f32 0x00000000#32) reducesTo_S4096x1000_S4096_d1 h_S_)))

/-- The result, of the two float arguments. -/
def out (x y : FVec F S4096x8x1000 .f32) : FVec F S4096x1000 .f32 :=
  share (weights (scaled (least x) (rate y (place x))))

set_option maxHeartbeats 2000000 in
/-- The operations' results, folded, at the result's buffer. -/
theorem out_eq (V : Valuation τ sig (Elt F)) :
    after ops V (main_v18 : DevRef τ sig) = out (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by after_results
theorem arg1_eq (V : Valuation τ sig (Elt F)) :
    after ops V (main_arg1 : DevRef τ sig) = V (main_arg1 : DevRef τ sig) := by after_results
theorem arg2_eq (V : Valuation τ sig (Elt F)) :
    after ops V (main_arg2 : DevRef τ sig) = V (main_arg2 : DevRef τ sig) := by after_results
theorem arg3_eq (V : Valuation τ sig (Elt F)) :
    after ops V (main_arg3 : DevRef τ sig) = V (main_arg3 : DevRef τ sig) := by after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Every execution ends, with the result's buffer at `out` of the arguments, which are unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v18)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v18).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.Proof.Ref

end
-- ==== Proof.RefValue.lean ====
/-
  The reference's result read at an index. Its argmin is a fold over the eight members that remembers the least value's
  index; the gather then reads the rate at that index, which is the rate `pick` keeps beside the least value. The rest
  is the quotient and the softmax along the row.
-/
module

public import proofs.«01_k».proof.Proof.Row
public import proofs.«01_k».proof.Proof.Ref
public import Idealize.ShloMosaic.Lib.Pointwise

@[expose] public section

noncomputable section

namespace Cert.Proof.RefValue

open Cert.ReferenceIdeal Cert.ReferenceIdeal.Gen Cert.Proof.Row Cert.Proof.Ref
open Idealize.ShloMosaic

/-- The argmin's body, on a state at an earlier index: it takes the new member when its value is strictly less. -/
theorem body_step (v w : EReal) (k n : ℕ) (hk : k < n) (hn : n < 8) :
    reducer_argmin_f32_i32 (F := Ideal) (v, BitVec.ofNat 32 k) (w, BitVec.ofNat 32 n)
      = if w < v then (w, BitVec.ofNat 32 n) else (v, BitVec.ofNat 32 k) := by
  have h : ∀ n < 8, ∀ k < n, (BitVec.ofNat 32 k).slt (BitVec.ofNat 32 n) = true := by decide
  rcases lt_trichotomy w v with hlt | heq | hgt
  · simp [reducer_argmin_f32_i32, Ideal.cmpf_def, Ideal.cmp, hlt, hlt.not_gt, hlt.ne', IntOp.ori, IntOp.andi, Scalar.select]
  · subst heq
    simp [reducer_argmin_f32_i32, Ideal.cmpf_def, Ideal.cmp, IntOp.ori, IntOp.andi, IntOp.cmpi, h n hn k hk, Scalar.select]
  · simp [reducer_argmin_f32_i32, Ideal.cmpf_def, Ideal.cmp, hgt, hgt.not_gt, hgt.ne, IntOp.ori, IntOp.andi, Scalar.select]

/-- At the fold's start, from `+∞` at index zero, it takes member zero. -/
theorem body_first (v : EReal) : reducer_argmin_f32_i32 (F := Ideal) (⊤, 0#32) (v, 0#32) = (v, 0#32) := by
  have : ¬ (⊤ : EReal) < v := not_top_lt
  simp [reducer_argmin_f32_i32, Ideal.cmpf_def, Ideal.cmp, this, IntOp.ori, IntOp.andi, IntOp.cmpi, Scalar.select]

/-- An arg-reduction over the middle axis of three is, at a result index `j` to which exactly the operand's indices
    `(r, ·, l)` drop, the fold of its body over the middle coordinates in order: in row-major order they come in order. -/
theorem argReduce_middle {n0 n1 n2 : ℕ} {t u : Shape} {β : Type} (f : Ideal .f32 × β → Ideal .f32 × β → Ideal .f32 × β)
    (x : FVec Ideal ⟨3, ![n0, n1, n2]⟩ .f32) (y : (⟨3, ![n0, n1, n2]⟩ : Shape).Idx → β) (ix : u.Idx → Ideal .f32) (iy : u.Idx → β)
    (h : (⟨3, ![n0, n1, n2]⟩ : Shape).ReducesTo [1] t) (hu : 0 < u.numel) (j : t.Idx) (r : Fin n0) (l : Fin n2)
    (hj : ∀ i, h.drop i = j ↔ ∃ k : Fin n1, ix3 r k l = i) :
    Host.argReduce f x y ix iy h hu j = ((List.finRange n1).map fun k => (x (ix3 r k l), y (ix3 r k l))).foldl f
      (ix (Shape.Idx.first hu), iy (Shape.Idx.first hu)) := by
  have hlt : ((List.finRange n1).map fun k => (⟨3, ![n0, n1, n2]⟩ : Shape).rowMajor (ix3 r k l)).Pairwise (· < ·) := by
    rw [List.pairwise_map]
    refine (List.pairwise_lt_finRange n1).imp fun {k k'} hk => ?_
    rw [Fin.lt_def, Shape.rowMajor_val_three, Shape.rowMajor_val_three]
    show (r.val * n1 + k.val) * n2 + l.val < (r.val * n1 + k'.val) * n2 + l.val
    have hk' : k.val < k'.val := hk
    have : 0 < n2 := l.pos
    exact Nat.add_lt_add_right (Nat.mul_lt_mul_of_pos_right (Nat.add_lt_add_left hk' _) this) _
  have hl : ((List.finRange (⟨3, ![n0, n1, n2]⟩ : Shape).numel).filter fun n =>
        h.drop ((⟨3, ![n0, n1, n2]⟩ : Shape).rowMajor.symm n) = j)
      = (List.finRange n1).map fun k => (⟨3, ![n0, n1, n2]⟩ : Shape).rowMajor (ix3 r k l) := by
    refine List.Perm.eq_of_pairwise' ((List.pairwise_lt_finRange _).filter _) hlt ?_
    refine (List.perm_ext_iff_of_nodup ((List.nodup_finRange _).filter _) (hlt.imp fun h => ne_of_lt h)).mpr fun n => ?_
    simp only [List.mem_filter, List.mem_finRange, true_and, List.mem_map, decide_eq_true_eq]
    rw [hj]
    constructor
    · rintro ⟨k, hk⟩
      exact ⟨k, (congrArg _ hk).trans (Equiv.apply_symm_apply _ n)⟩
    · rintro ⟨k, rfl⟩
      exact ⟨k, (Equiv.symm_apply_apply _ _).symm⟩
  rw [Ideal.argReduce_eq_reduce2, Host.reduce2_eq_foldl_fiber, Host.argReduceFiber, hl, List.map_map]
  congr 1
  refine List.map_congr_left fun k _ => ?_
  simp only [Function.comp_apply, Equiv.symm_apply_apply]

/-- Its index, when the fold is known. -/
theorem index_middle {n0 n1 n2 : ℕ} {t u : Shape} {β : Type} (f : Ideal .f32 × β → Ideal .f32 × β → Ideal .f32 × β)
    (x : FVec Ideal ⟨3, ![n0, n1, n2]⟩ .f32) (y : (⟨3, ![n0, n1, n2]⟩ : Shape).Idx → β) (ix : u.Idx → Ideal .f32) (iy : u.Idx → β)
    (h : (⟨3, ![n0, n1, n2]⟩ : Shape).ReducesTo [1] t) (hu : 0 < u.numel) (j : t.Idx) (r : Fin n0) (l : Fin n2)
    (hj : ∀ i, h.drop i = j ↔ ∃ k : Fin n1, ix3 r k l = i) (a : Fin n1 → EReal) (b : Fin n1 → β) (a0 : EReal) (b0 : β)
    (ha : ∀ k, x (ix3 r k l) = a k) (hb : ∀ k, y (ix3 r k l) = b k) (ha0 : ∀ i, ix i = a0) (hb0 : ∀ i, iy i = b0)
    (p : EReal × β) (hp : ((List.finRange n1).map fun k => (a k, b k)).foldl f (a0, b0) = p) :
    index f x y ix iy h hu j = p.2 := by
  rw [← hp]
  refine congrArg Prod.snd ((argReduce_middle f x y ix iy h hu j r l hj).trans ?_)
  rw [ha0, hb0]
  simp only [ha, hb]

/-- A reduction over the middle axis of three is, at a result index to which exactly the operand's indices `(r, ·, l)`
    drop, the fold over the middle coordinates. -/
theorem reduce_middle {n0 n1 n2 : ℕ} {t u : Shape} (f : EReal → EReal → EReal) [Std.Commutative f] [Std.Associative f]
    (x : (⟨3, ![n0, n1, n2]⟩ : Shape).Idx → EReal) (ix : u.Idx → EReal)
    (h : (⟨3, ![n0, n1, n2]⟩ : Shape).ReducesTo [1] t) (hu : 0 < u.numel) (j : t.Idx) (r : Fin n0) (l : Fin n2)
    (hj : ∀ i, h.drop i = j ↔ ∃ k : Fin n1, ix3 r k l = i) (a0 : EReal) (ha0 : ∀ i, ix i = a0) :
    Host.reduce f x ix h hu j = (Finset.univ : Finset (Fin n1)).fold f a0 fun k => x (ix3 r k l) := by
  rw [Host.reduce_eq_fold, ha0]
  exact Finset.fold_filter_eq_fold_of_fiber f _ (fun k : Fin n1 => ix3 r k l) (fun _ _ e => congrFun e 1) hj a0 x

/-- The same over the last axis of two. -/
theorem reduce_last {n0 n1 : ℕ} {t u : Shape} (f : EReal → EReal → EReal) [Std.Commutative f] [Std.Associative f]
    (x : (⟨2, ![n0, n1]⟩ : Shape).Idx → EReal) (ix : u.Idx → EReal)
    (h : (⟨2, ![n0, n1]⟩ : Shape).ReducesTo [1] t) (hu : 0 < u.numel) (j : t.Idx) (r : Fin n0)
    (hj : ∀ i, h.drop i = j ↔ ∃ k : Fin n1, ix2 r k = i) (a0 : EReal) (ha0 : ∀ i, ix i = a0) :
    Host.reduce f x ix h hu j = (Finset.univ : Finset (Fin n1)).fold f a0 fun k => x (ix2 r k) := by
  rw [Host.reduce_eq_fold, ha0]
  exact Finset.fold_filter_eq_fold_of_fiber f _ (fun k : Fin n1 => ix2 r k) (fun _ _ e => congrFun e 1) hj a0 x

/-- The batched gather: of an operand `[B, N, C]`, one index along the middle axis for each row and class. -/
abbrev gatherDims (B N C : ℕ)
    (wf : GatherDims.WF ⟨3, ![B, N, C]⟩ ⟨4, ![B, 1, C, 1]⟩ ⟨3, ![B, 1, C]⟩ [] [1] [0, 2] [1] [0, 2] 3 ![1, 1, 1]) :
    GatherDims ⟨3, ![B, N, C]⟩ ⟨4, ![B, 1, C, 1]⟩ ⟨3, ![B, 1, C]⟩ where
  offsetDims := []
  collapsedSliceDims := [1]
  operandBatchingDims := [0, 2]
  startIndicesBatchingDims := [0, 2]
  startIndexMap := [1]
  indexVectorDim := 3
  sliceSizes := ![1, 1, 1]
  wf := wf

/-- It reads the operand at that index, clamped into the axis, and at its own row and class. -/
theorem gather_middle {α : Type} {B N C w : ℕ}
    (wf : GatherDims.WF ⟨3, ![B, N, C]⟩ ⟨4, ![B, 1, C, 1]⟩ ⟨3, ![B, 1, C]⟩ [] [1] [0, 2] [1] [0, 2] 3 ![1, 1, 1])
    (y : (⟨3, ![B, N, C]⟩ : Shape).Idx → α) (i : IVec ⟨4, ![B, 1, C, 1]⟩ w) (r : Fin B) (l : Fin C) (k : Fin N)
    (hk : min (i (ix4 r 0 l 0)).toInt.toNat (N - 1) = k.val) :
    Host.gather (gatherDims B N C wf) y i (ix3 r 0 l) = y (ix3 r k l) := by
  unfold Host.gather
  congr 1
  funext a
  refine Fin.ext ?_
  show (gatherDims B N C wf).start (ix3 r 0 l) i a + (gatherDims B N C wf).batchCoord (ix3 r 0 l) a
      + (gatherDims B N C wf).offCoord (ix3 r 0 l) a = _
  have hoff : (gatherDims B N C wf).offCoord (ix3 r 0 l) a = 0 := by
    refine GatherDims.offCoord_eq_zero _ _ _ fun h => ?_
    have h' := (GatherDims.mem_sKept _ _).mp h
    fin_cases a <;> simp at h'
  rw [hoff, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by simp), Nat.zero_add]
    unfold GatherDims.batchCoord
    rw [dif_pos (show (0 : Fin 3) ∈ (gatherDims B N C wf).operandBatchingDims by simp)]
    rfl
  · rw [GatherDims.batchCoord_eq_zero _ _ _ (fun h => by simp at h), Nat.add_zero]
    unfold GatherDims.start
    rw [dif_pos (show (1 : Fin 3) ∈ (gatherDims B N C wf).startIndexMap from List.mem_singleton.mpr rfl)]
    have hsi : (gatherDims B N C wf).siIdx (ix3 r 0 l) ⟨List.idxOf (1 : Fin 3) (gatherDims B N C wf).startIndexMap,
        List.idxOf_lt_length_iff.2 (List.mem_singleton.mpr rfl)⟩ = ix4 r 0 l 0 := by
      funext b
      refine Fin.ext ?_
      match b with
      | ⟨0, _⟩ => rfl
      | ⟨1, _⟩ => rfl
      | ⟨2, _⟩ => rfl
      | ⟨3, _⟩ => rfl
    rw [hsi]
    exact hk
  · rw [GatherDims.start_batching _ _ _ _ (by simp), Nat.zero_add]
    unfold GatherDims.batchCoord
    rw [dif_pos (show (2 : Fin 3) ∈ (gatherDims B N C wf).operandBatchingDims by simp)]
    rfl

variable (x y : FVec Ideal S4096x8x1000 .f32)

/-- The indices of the operand that drop to `(r, l)`. -/
theorem drop_iff (r : Fin 4096) (l : Fin 1000) (i : S4096x8x1000.Idx) :
    reducesTo_S4096x8x1000_S4096x1000_d1.drop i = ix2 r l ↔ ∃ k : Fin 8, ix3 r k l = i :=
  reducesTo_S4096x8x1000_S4096x1000_d1.fiber_r3_a1 (ix2 r l) i

/-- The word the argmin starts at is `+∞`. -/
theorem inf_apply (i : S_.Idx) : (constant S_ .f32 0x7F800000#32 : FVec Ideal S_ .f32) i = (⊤ : EReal) := by
  pointwise []
  rfl

/-- The argmin remembers the member `pick` chooses. -/
theorem place_spec (r : Fin 4096) (l : Fin 1000) : ∃ k : Fin 8,
    pick (fun k => x (ix3 r k l)) (fun k => y (ix3 r k l)) 7 = (x (ix3 r k l), y (ix3 r k l))
    ∧ place x (ix2 r l) = BitVec.ofNat 32 k.val := by
  obtain ⟨k, -, hp, hs⟩ := fold_pick (fun k => x (ix3 r k l)) (fun k => y (ix3 r k l))
    (reducer_argmin_f32_i32 (F := Ideal)) body_first body_step
  exact ⟨k, hp, index_middle reducer_argmin_f32_i32 x (iotaInDim S4096x8x1000 32 1) (constant S_ .f32 0x7F800000#32)
    (constantI S_ 32 0#32) reducesTo_S4096x8x1000_S4096x1000_d1 h_S_ (ix2 r l) r l (drop_iff r l)
    (fun k => x (ix3 r k l)) (fun k => BitVec.ofNat 32 k.val) ⊤ 0#32 (fun _ => rfl) (fun _ => rfl) inf_apply
    (fun _ => rfl) _ hs⟩

/-- The least value is the fold of `min` from `+∞`. -/
theorem least_apply (r : Fin 4096) (l : Fin 1000) :
    least x (ix2 r l) = (Finset.univ : Finset (Fin 8)).fold min ⊤ fun k => x (ix3 r k l) :=
  reduce_middle min x (constant S_ .f32 0x7F800000#32 : FVec Ideal S_ .f32) reducesTo_S4096x8x1000_S4096x1000_d1 h_S_
    (ix2 r l) r l (drop_iff r l) ⊤ inf_apply

/-- The gather's start indices hold the argmin's index: it is not negative. -/
theorem start_apply (p : IVec S4096x1000 32) (r : Fin 4096) (l : Fin 1000) (k : Fin 8)
    (hp : p (ix2 r l) = BitVec.ofNat 32 k.val) : start p (ix4 r 0 l 0) = BitVec.ofNat 32 k.val := by
  have h : ∀ k : Fin 8, IntOp.cmpi .slt (BitVec.ofNat 32 k.val) 0#32 = 0#1 := by decide
  unfold start
  pointwise []
  rw [hp, h k]
  rfl

/-- It lies among the ensemble's. -/
theorem inside_apply (p : IVec S4096x1000 32) (r : Fin 4096) (l : Fin 1000) (k : Fin 8)
    (hp : p (ix2 r l) = BitVec.ofNat 32 k.val) : inside (start p) (ix3 r 0 l) = 1#1 := by
  have h : ∀ k : Fin 8, IntOp.andi (IntOp.andi (IntOp.cmpi .sge (BitVec.ofNat 32 k.val) 0#32)
    (IntOp.cmpi .sle (BitVec.ofNat 32 k.val) 7#32)) 1#1 = 1#1 := by decide
  have e := start_apply p r l k hp
  revert e
  generalize start p = i
  intro e
  unfold inside
  pointwise []
  rw [Finset.univ_unique, Finset.fold_singleton]
  show IntOp.andi (IntOp.andi (IntOp.cmpi .sge (i (ix4 r 0 l 0)) 0#32) (IntOp.cmpi .sle (i (ix4 r 0 l 0)) 7#32)) 1#1 = 1#1
  rw [e]
  exact h k

/-- The gather reads the operand at the start index along the ensemble, and at its own row and class. -/
theorem gather_apply (i : IVec S4096x1x1000x1 32) (r : Fin 4096) (l : Fin 1000) (k : Fin 8)
    (hi : i (ix4 r 0 l 0) = BitVec.ofNat 32 k.val) :
    Host.gather gather_S4096x8x1000_S4096x1x1000x1_S4096x1x1000_n_1_02_02_1_3_111 y i (ix3 r 0 l) = y (ix3 r k l) := by
  have h : ∀ k : Fin 8, min (BitVec.ofNat 32 k.val).toInt.toNat (8 - 1) = k.val := by decide
  exact gather_middle _ y i r l k ((congrArg (fun b : BitVec 32 => min b.toInt.toNat (8 - 1)) hi).trans (h k))

/-- The gathered rate, in bounds: the rate of the member `p` names. -/
theorem rate_apply (p : IVec S4096x1000 32) (r : Fin 4096) (l : Fin 1000) (k : Fin 8)
    (hp : p (ix2 r l) = BitVec.ofNat 32 k.val) : Ref.rate y p (ix2 r l) = y (ix3 r k l) := by
  unfold Ref.rate
  pointwise []
  rw [inside_apply p r l k hp, gather_apply y (start p) r l k (start_apply p r l k hp)]
  rfl

/-- The quotient, of the least value by the rate clipped from below. -/
theorem scaled_apply (b q : FVec Ideal S4096x1000 .f32) (i : S4096x1000.Idx) :
    scaled b q i = Ideal.div (b i) (max (q i) (Ideal.ofBits .f32 0x322BCC77#32)) := by
  unfold scaled
  pointwise []

/-- The word the greatest entry's fold starts at is `-∞`. -/
theorem bot_apply (i : S_.Idx) : (constant S_ .f32 0xFF800000#32 : FVec Ideal S_ .f32) i = (⊥ : EReal) := by
  pointwise []
  rfl

/-- A row's greatest entry. -/
theorem greatest_apply (s : FVec Ideal S4096x1000 .f32) (r : Fin 4096) :
    greatest s (ix1 r) = top fun l => s (ix2 r l) :=
  reduce_last max s (constant S_ .f32 0xFF800000#32 : FVec Ideal S_ .f32) reducesTo_S4096x1000_S4096_d1 h_S_ (ix1 r) r
    (reducesTo_S4096x1000_S4096_d1.fiber_r2_a1 (ix1 r)) ⊥ bot_apply

/-- The greater of an entry and `-∞` is the entry. -/
theorem atLeast_apply (g : FVec Ideal S4096 .f32) (i : S4096.Idx) : atLeast g i = g i :=
  max_eq_right bot_le

/-- The exponential of an entry less its row's greatest. -/
theorem weights_apply (s : FVec Ideal S4096x1000 .f32) (r : Fin 4096) (l : Fin 1000) :
    weights s (ix2 r l) = Ideal.exp (s (ix2 r l) - top fun l' => s (ix2 r l')) := by
  have e : weights s (ix2 r l) = Ideal.exp (s (ix2 r l) - atLeast (greatest s) (ix1 r)) := by
    unfold weights
    generalize atLeast (greatest s) = g
    pointwise []
  rw [e, atLeast_apply, greatest_apply]

/-- An entry over its row's sum. -/
theorem share_apply (w : FVec Ideal S4096x1000 .f32) (r : Fin 4096) (l : Fin 1000) :
    share w (ix2 r l) = Ideal.div (w (ix2 r l)) (∑ l' : Fin 1000, w (ix2 r l')) := by
  unfold share
  pointwise []

/-- The result at a row and class: the softmax of the row's scores. -/
theorem out_apply (r : Fin 4096) (l : Fin 1000) :
    out x y (ix2 r l) = soft (fun l' => score (fun k => x (ix3 r k l')) fun k => y (ix3 r k l')) l := by
  have hs : ∀ l' : Fin 1000, scaled (least x) (Ref.rate y (place x)) (ix2 r l')
      = score (fun k => x (ix3 r k l')) fun k => y (ix3 r k l') := fun l' => by
    obtain ⟨k, hp, hk⟩ := place_spec x y r l'
    rw [scaled_apply, least_apply, rate_apply y (place x) r l' k hk, score, pick_fst, hp]
  unfold out
  rw [share_apply]
  simp only [weights_apply, hs]
  rfl

end Cert.Proof.RefValue
-- ==== Proof.Equal.lean ====
/-
  The two results are one function of the two float arguments: at row `r` and class `l`, the softmax over the classes of
  the row's scores, a class's score being the least value over the ensemble divided by the rate kept beside it.
-/
module

public import proofs.«01_k».proof.Proof.KernelValue
public import proofs.«01_k».proof.Proof.RefValue

@[expose] public section

noncomputable section

namespace Cert.Proof.Equal

open Idealize.ShloMosaic

/-- The reference's result is the kernel's. -/
theorem out_eq_result (x y : FVec Ideal Cert.ReferenceIdeal.S4096x8x1000 .f32) :
    Cert.Proof.Ref.out x y = Cert.Proof.KernelValue.result x y := by
  funext i
  have hi : i = ix2 (i 0) (i 1) := by
    funext a
    match a with
    | ⟨0, _⟩ => rfl
    | ⟨1, _⟩ => rfl
  rw [hi]
  exact RefValue.out_apply x y (i 0) (i 1)

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, changes no argument, and has no semaphore. -/
theorem reference_frame : Cert.quiescent_ReferenceIdeal (hReferenceIdeal := Cert.ReferenceIdeal.Gen.facts) :=
  fun m ρ _ => (θ_run _ _ _).mono
    (fun r h => ⟨fun c => (h c).2, Idealize.ShloMosaic.sem_eq_zero_of_no_sems (by decide) r.2⟩) (Ref.run (F := Ideal) m ρ)

/-- Both programs leave `result` of the two float arguments. -/
theorem same : Cert.algebraic_KernelIdeal_ReferenceIdeal (hKernelIdeal := Cert.KernelIdeal.Gen.facts)
    (hReferenceIdeal := Cert.ReferenceIdeal.Gen.facts) := by
  intro m ρ m' ρ' _ hagree
  refine ⟨fun c => KernelValue.outOf m c, KernelValue.run m ρ, (θ_run _ _ _).mono (fun _ h c => ⟨(h c).1.trans ?_, (h c).2⟩)
    (Ref.run (F := Ideal) m' ρ')⟩
  rw [(hagree c).1, (hagree c).2.1]
  exact Equal.out_eq_result _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same⟩

end Cert.Proof

end
